-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BandsIdeal (m : (ℓ : Loc Cert.BandsIdeal.nD Cert.BandsIdeal.τ Cert.BandsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_BandsIdeal [hBandsIdeal : Cert.BandsIdeal.Facts] : Prop :=
  ∀ (m : (ℓ : Loc Cert.BandsIdeal.nD Cert.BandsIdeal.τ Cert.BandsIdeal.sig) → Buf (Elt Ideal) ℓ) (g : Dev Cert.BandsIdeal.nD → PrngReg), Pre_BandsIdeal m →
    θ_run (Cert.BandsIdeal.defs (F := Ideal)) (onTc (τ := Cert.BandsIdeal.τ) (Cert.BandsIdeal.main (F := Ideal))) ⟨m, fun _ => 0, g⟩ (fun r => (∀ c : Dev Cert.BandsIdeal.nD,
      r.2.mem ((c.tc : Thread Cert.BandsIdeal.nD Cert.BandsIdeal.τ).loc Cert.BandsIdeal.main_arg0) = m ((c.tc : Thread Cert.BandsIdeal.nD Cert.BandsIdeal.τ).loc Cert.BandsIdeal.main_arg0)
      ∧ r.2.mem ((c.tc : Thread Cert.BandsIdeal.nD Cert.BandsIdeal.τ).loc Cert.BandsIdeal.main_arg1) = m ((c.tc : Thread Cert.BandsIdeal.nD Cert.BandsIdeal.τ).loc Cert.BandsIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_BandsIdeal_on_finite [hKernelIdeal : Cert.KernelIdeal.Facts] [hBandsIdeal : Cert.BandsIdeal.Facts] [hOn_finite : Cert.On_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BandsIdeal.nD Cert.BandsIdeal.τ Cert.BandsIdeal.sig) → Buf (Elt Ideal) ℓ) (g' : Dev Cert.BandsIdeal.nD → PrngReg), Pre_KernelIdeal m →
    (∀ c : Dev Cert.KernelIdeal.nD,
      m' ((c.tc : Thread Cert.BandsIdeal.nD Cert.BandsIdeal.τ).loc Cert.BandsIdeal.main_arg0) = m ((c.tc : Thread Cert.KernelIdeal.nD Cert.KernelIdeal.τ).loc Cert.KernelIdeal.main_arg0)
      ∧ m' ((c.tc : Thread Cert.BandsIdeal.nD Cert.BandsIdeal.τ).loc Cert.BandsIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 256]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.BandsIdeal.defs (F := Ideal)) (onTc (τ := Cert.BandsIdeal.τ) (Cert.BandsIdeal.main (F := Ideal))) ⟨m', fun _ => 0, g'⟩ (fun r => ∀ c : Dev Cert.BandsIdeal.nD,
          (∀ i : (⟨2, ![16384, 256]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.BandsIdeal.nD Cert.BandsIdeal.τ).loc Cert.BandsIdeal.main_v15) i = v0 c i)
          ∧ r.2.mem ((c.tc : Thread Cert.BandsIdeal.nD Cert.BandsIdeal.τ).loc Cert.BandsIdeal.main_arg0) = m' ((c.tc : Thread Cert.BandsIdeal.nD Cert.BandsIdeal.τ).loc Cert.BandsIdeal.main_arg0)
          ∧ r.2.mem ((c.tc : Thread Cert.BandsIdeal.nD Cert.BandsIdeal.τ).loc Cert.BandsIdeal.main_arg1) = m' ((c.tc : Thread Cert.BandsIdeal.nD Cert.BandsIdeal.τ).loc Cert.BandsIdeal.main_arg1))

def Claim : Prop :=
  ∃ (hKernel : Cert.Kernel.Facts) (hKernelIdeal : Cert.KernelIdeal.Facts) (hReferenceIdeal : Cert.ReferenceIdeal.Facts) (hBandsIdeal : Cert.BandsIdeal.Facts) (hOn_finite : Cert.On_finite.Facts),
    quiescent_Kernel (hKernel := hKernel)
    ∧ quiescent_KernelIdeal (hKernelIdeal := hKernelIdeal)
    ∧ quiescent_ReferenceIdeal (hReferenceIdeal := hReferenceIdeal)
    ∧ quiescent_BandsIdeal (hBandsIdeal := hBandsIdeal)
    ∧ preserves_Kernel_KernelIdeal
    ∧ algebraic_KernelIdeal_ReferenceIdeal (hKernelIdeal := hKernelIdeal) (hReferenceIdeal := hReferenceIdeal)
    ∧ algebraic_KernelIdeal_BandsIdeal_on_finite (hKernelIdeal := hKernelIdeal) (hBandsIdeal := hBandsIdeal) (hOn_finite := hOn_finite)
-- ==== On_finite.lean ====
abbrev S16384 : Shape := ⟨1, ![16384]⟩
abbrev S100000x256 : Shape := ⟨2, ![100000, 256]⟩
abbrev S16384x256 : Shape := ⟨2, ![16384, 256]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384 .f32) (main_arg1 : FVec F S100000x256 .f32) : IVec S16384x256 1 :=
  let main_v0 : IVec S16384x256 32 := iotaInDim S16384x256 32 1
  let main_c : IVec S_ 32 := constantI S_ 32 254#32
  let main_v1 : IVec S16384x256 32 := broadcastInDim S16384x256 ![] bcast_S_S16384x256 main_c
  let main_v2 : IVec S16384x256 1 := cmpi .slt main_v0 main_v1
  main_v2
-- ==== Kernel.lean ====
abbrev S16384 : Shape := ⟨1, ![16384]⟩
abbrev S100000x256 : Shape := ⟨2, ![100000, 256]⟩
abbrev S256x256 : Shape := ⟨2, ![256, 256]⟩
abbrev S128x128 : Shape := ⟨2, ![128, 128]⟩
abbrev S128 : Shape := ⟨1, ![128]⟩
abbrev S_ : Shape := ⟨0, ![]⟩
abbrev S128x1 : Shape := ⟨2, ![128, 1]⟩
abbrev S1 : Shape := ⟨1, ![1]⟩
abbrev S2 : Shape := ⟨1, ![2]⟩
abbrev S16384x256 : Shape := ⟨2, ![16384, 256]⟩
abbrev S32x128 : Shape := ⟨2, ![32, 128]⟩
abbrev S4096x256 : Shape := ⟨2, ![4096, 256]⟩
abbrev S1x128 : Shape := ⟨2, ![1, 128]⟩
abbrev S256x128 : Shape := ⟨2, ![256, 128]⟩
abbrev S128x256 : Shape := ⟨2, ![128, 256]⟩

abbrev nBuf : Space → Nat
  | .hbm => 20
  | .vmem => 6
  | .smem => 0
  | _ => 0

abbrev bufTy : (tb : Table) → Fin (tcTables nBuf tb) → BufTy
  | .hbm, ⟨0, _⟩ => ⟨S16384, .f32⟩
  | .hbm, ⟨1, _⟩ => ⟨S100000x256, .f32⟩
  | .hbm, ⟨2, _⟩ => ⟨S256x256, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S_, .f32⟩
  | .hbm, ⟨18, _⟩ => ⟨S128x1, .f32⟩
  | .hbm, ⟨19, _⟩ => ⟨S16384x256, .f32⟩
  | .local _ .vmem, ⟨0, _⟩ => ⟨S32x128, .f32⟩
  | .local _ .vmem, ⟨1, _⟩ => ⟨S32x128, .f32⟩
  | .local _ .vmem, ⟨2, _⟩ => ⟨S128x1, .f32⟩
  | .local _ .vmem, ⟨3, _⟩ => ⟨S256x256, .f32⟩
  | .local _ .vmem, ⟨4, _⟩ => ⟨S4096x256, .f32⟩
  | .local _ .vmem, ⟨5, _⟩ => ⟨S4096x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384 : Shape := ⟨1, ![16384]⟩
abbrev S100000x256 : Shape := ⟨2, ![100000, 256]⟩
abbrev S2 : Shape := ⟨1, ![2]⟩
abbrev S_ : Shape := ⟨0, ![]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S16384x128x1 : Shape := ⟨3, ![16384, 128, 1]⟩
abbrev S16384x128x2 : Shape := ⟨3, ![16384, 128, 2]⟩
abbrev S16384x256 : Shape := ⟨2, ![16384, 256]⟩
abbrev S16384x254 : Shape := ⟨2, ![16384, 254]⟩
abbrev S16384x2 : Shape := ⟨2, ![16384, 2]⟩

abbrev nBuf : Space → Nat
  | .hbm => 27
  | .vmem => 0
  | .smem => 0
  | _ => 0

abbrev bufTy : (tb : Table) → Fin (tcTables nBuf tb) → BufTy
  | .hbm, ⟨0, _⟩ => ⟨S16384, .f32⟩
  | .hbm, ⟨1, _⟩ => ⟨S100000x256, .f32⟩
  | .hbm, ⟨2, _⟩ => ⟨S2, .f32⟩
  | .hbm, ⟨3, _⟩ => ⟨S_, .f32⟩
  | .hbm, ⟨4, _⟩ => ⟨S2, .f32⟩
  | .hbm, ⟨5, _⟩ => ⟨S2, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S16384x1, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128x1, .f32⟩
  | .hbm, ⟨21, _⟩ => ⟨S16384x128x1, .f32⟩
  | .hbm, ⟨22, _⟩ => ⟨S16384x128x2, .f32⟩
  | .hbm, ⟨23, _⟩ => ⟨S16384x256, .f32⟩
  | .hbm, ⟨24, _⟩ => ⟨S16384x254, .f32⟩
  | .hbm, ⟨25, _⟩ => ⟨S16384x2, .f32⟩
  | .hbm, ⟨26, _⟩ => ⟨S16384x256, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== BandsIdeal.lean ====
abbrev S16384 : Shape := ⟨1, ![16384]⟩
abbrev S100000x256 : Shape := ⟨2, ![100000, 256]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S16384x128x1 : Shape := ⟨3, ![16384, 128, 1]⟩
abbrev S16384x128x2 : Shape := ⟨3, ![16384, 128, 2]⟩
abbrev S16384x256 : Shape := ⟨2, ![16384, 256]⟩

abbrev nBuf : Space → Nat
  | .hbm => 20
  | .vmem => 0
  | .smem => 0
  | _ => 0

abbrev bufTy : (tb : Table) → Fin (tcTables nBuf tb) → BufTy
  | .hbm, ⟨0, _⟩ => ⟨S16384, .f32⟩
  | .hbm, ⟨1, _⟩ => ⟨S100000x256, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S16384x1, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128x1, .f32⟩
  | .hbm, ⟨17, _⟩ => ⟨S16384x128x1, .f32⟩
  | .hbm, ⟨18, _⟩ => ⟨S16384x128x2, .f32⟩
  | .hbm, ⟨19, _⟩ => ⟨S16384x256, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Slab.lean ====
/-
  ONE SLAB: what the kernel stores in 128 rows of its output block. It takes the column of frequencies, the table and one
  row of 128 positions, forms the 256 × 128 matrix of sines (upper half) over cosines (lower half), and multiplies its
  transpose by the table. Every one of the body's 32 stores is this function.
-/
module

public import proofs.«01_k».proof.Proof.Gen.KernelIdeal.Skeleton
public import Idealize.ShloMosaic.Lib.Pointwise
public import Idealize.ShloMosaic.Lib.Pipeline.Value

@[expose] public section

noncomputable section

namespace Cert.Proof.Slab

open Cert.KernelIdeal Cert.KernelIdeal.Gen Idealize.ShloMosaic

/-- Frequency times position, for 128 frequencies and the 128 positions of one row. -/
def angle (f : Vec Ideal S128x1 .f32) (x : Vec Ideal S1x128 .f32) : FVec Ideal S128x128 .f32 :=
  mulf (broadcastTo S128x128 (shapeCast S128x1 f shapeCasts_S128x1_S128x1) broadcasts_S128x1_S128x128)
    (broadcastTo S128x128 (shapeCast S1x128 x shapeCasts_S1x128_S1x128) broadcasts_S1x128_S128x128)

/-- The sines over the cosines. -/
def waves (f : Vec Ideal S128x1 .f32) (x : Vec Ideal S1x128 .f32) : FVec Ideal S256x128 .f32 :=
  concatenate S256x128 0 [⟨S128x128, sin (angle f x)⟩, ⟨S128x128, cos (angle f x)⟩] concatenates_S128x128_S128x128_S256x128_d0

/-- What one store leaves: the waves' transpose times the table. -/
def slab (f : Vec Ideal S128x1 .f32) (p : Vec Ideal S256x256 .f32) (x : Vec Ideal S1x128 .f32) : FVec Ideal S128x256 .f32 :=
  matmul (φ₂ := .f32) dot_S256x128_S256x256_S128x256_0_0_1_1_n_n (some .fp32) (waves f x) p (constant S128x256 .f32 0x00000000#32)

theorem angle_apply (f : Vec Ideal S128x1 .f32) (x : Vec Ideal S1x128 .f32) (k r : Fin 128) :
    angle f x (ix2 k r) = f (ix2 k 0) * x (ix2 0 r) := by
  pointwise [angle]

/-- Row `k` of the waves: a sine in the upper half, a cosine in the lower. -/
def wave (k : ℕ) (a : EReal) : EReal := if k < 128 then Ideal.sin a else Ideal.cos a

theorem waves_apply (f : Vec Ideal S128x1 .f32) (x : Vec Ideal S1x128 .f32) (k : Fin 256) (r : Fin 128) :
    waves f x (ix2 k r) = wave k (f (ix2 ⟨k.val % 128, Nat.mod_lt _ (by decide)⟩ 0) * x (ix2 0 r)) := by
  unfold waves wave
  by_cases hk : k.val < 128
  · rw [if_pos hk]
    refine (concatenate_pair_apply_left (t := S256x128) (s₁ := S128x128) (s₂ := S128x128) 0 _ _ _ (ix2 k r) rfl
      (ix2 (⟨k.val, hk⟩ : Fin 128) r) (by intro b; match b with | ⟨0, _⟩ => rfl | ⟨1, _⟩ => rfl)).trans ?_
    show Ideal.sin (angle f x (ix2 ⟨k.val, hk⟩ r)) = _
    rw [angle_apply]
    congr 4
    exact Fin.ext (Nat.mod_eq_of_lt hk).symm
  · rw [if_neg hk]
    refine (concatenate_pair_apply_right (t := S256x128) (s₁ := S128x128) (s₂ := S128x128) 0 _ _ _ (ix2 k r) rfl rfl
      (ix2 (⟨k.val - 128, by omega⟩ : Fin 128) r)
      (by intro b hb; match b with | ⟨0, _⟩ => exact absurd rfl hb | ⟨1, _⟩ => rfl)
      (by show k.val - 128 + 128 = k.val; omega)).trans ?_
    show Ideal.cos (angle f x (ix2 ⟨k.val - 128, _⟩ r)) = _
    rw [angle_apply]
    congr 4
    exact Fin.ext (by show k.val - 128 = k.val % 128; omega)

/-- One element of a slab: the column of the table weighs the waves of the position. -/
theorem slab_apply (f : Vec Ideal S128x1 .f32) (p : Vec Ideal S256x256 .f32) (x : Vec Ideal S1x128 .f32)
    (r : Fin 128) (j : Fin 256) :
    slab f p x (ix2 r j)
      = ∑ k : Fin 256, wave k (f (ix2 ⟨k.val % 128, Nat.mod_lt _ (by decide)⟩ 0) * x (ix2 0 r)) * p (ix2 k j) := by
  have h : slab f p x (ix2 r j) = ∑ k : Fin 256, waves f x (ix2 k r) * p (ix2 k j) := by pointwise [slab]
  rw [h]
  exact Finset.sum_congr rfl fun k _ => by rw [waves_apply]

end Cert.Proof.Slab

end
-- ==== Proof.Block.lean ====
/-
  ONE BLOCK: what the body leaves in its 4096 × 256 output block. Row `y` of the block belongs to the position in row
  `y / 128` and column `y % 128` of the 32 × 128 block of positions; the 32 stores are 32 slabs of 128 rows of this one
  function of the block's index.
-/
module

public import proofs.«01_k».proof.Proof.Slab
public import proofs.«01_k».proof.Proof.Gen.KernelIdeal.Frame

@[expose] public section

noncomputable section

namespace Cert.Proof.Block

open Cert.KernelIdeal Cert.KernelIdeal.Gen Cert.Proof.Slab Idealize.ShloMosaic

/-- Row `q`, column `j` of the block. -/
def elem (x : Vec Ideal S32x128 .f32) (f : Vec Ideal S128x1 .f32) (p : Vec Ideal S256x256 .f32) (q : Fin 4096) (j : Fin 256) : EReal :=
  ∑ k : Fin 256, wave k (f (ix2 ⟨k.val % 128, Nat.mod_lt _ (by decide)⟩ 0)
      * x (ix2 ⟨q.val / 128, by omega⟩ ⟨q.val % 128, Nat.mod_lt _ (by decide)⟩))
    * p (ix2 k j)

/-- Slab `u`, of row `u` of the positions, is rows `128 u` to `128 u + 127` of the block. -/
theorem slab_emb (x : Vec Ideal S32x128 .f32) (f : Vec Ideal S128x1 .f32) (p : Vec Ideal S256x256 .f32) (u : ℕ)
    (hx : ∀ a, (![u, 0] : Fin 2 → ℕ) a + S1x128.size a ≤ S32x128.size a) (o : ℕ) (ho : o = 128 * u)
    (hy : ∀ a, (![o, 0] : Fin 2 → ℕ) a + S128x256.size a ≤ S4096x256.size a) (z : S128x256.Idx) :
    slab f p (View.ld x (Rect.unit (s := S32x128) ![u, 0] S1x128.size hx)) z
      = (fun y : S4096x256.Idx => elem x f p (y 0) (y 1)) ((Rect.unit (s := S4096x256) ![o, 0] S128x256.size hy).emb z) := by
  subst ho
  obtain ⟨r, j, rfl⟩ : ∃ (r : Fin 128) (j : Fin 256), z = ix2 r j := ⟨z 0, z 1, eq_ix2 z⟩
  rw [slab_apply]
  have hr := r.isLt
  refine Finset.sum_congr rfl fun k _ => ?_
  congr 3
  · show x _ = x _
    congr 1
    refine Shape.idx_ext₂ ?_ ?_
    · show ((Rect.unit (s := S32x128) ![u, 0] S1x128.size hx).idx (ix2 0 r) 0 : ℕ)
        = ((Rect.unit (s := S4096x256) ![128 * u, 0] S128x256.size hy).emb (ix2 r j) 0 : ℕ) / 128
      rw [LoadRect.idx_apply, Rect.emb_apply]
      simp [Rect.unit]
      omega
    · show ((Rect.unit (s := S32x128) ![u, 0] S1x128.size hx).idx (ix2 0 r) 1 : ℕ)
        = ((Rect.unit (s := S4096x256) ![128 * u, 0] S128x256.size hy).emb (ix2 r j) 0 : ℕ) % 128
      rw [LoadRect.idx_apply, Rect.emb_apply]
      simp [Rect.unit]
      omega
  · refine Fin.ext ?_
    rw [Rect.emb_apply]
    simp [Rect.unit]

theorem zeros : (![0, 0] : Fin 2 → ℕ) = fun _ => 0 := funext fun a => by fin_cases a <;> rfl

/-- The block the body leaves. -/
theorem out_apply (x : Vec Ideal S32x128 .f32) (f : Vec Ideal S128x1 .f32) (p : Vec Ideal S256x256 .f32) (y : S4096x256.Idx) :
    out0_3 (F := Ideal) x f p y = elem x f p (y 0) (y 1) := by
  unfold_out out0_3
  rw [show View.ld f r0_0 = f from View.ld_unit_zero (S := S128x1) zeros _ f,
    show View.ld p r0_1 = p from View.ld_unit_zero (S := S256x256) zeros _ p]
  refine View.canon_apply_of_pieces (Val := Elt Ideal) (fun y : S4096x256.Idx => elem x f p (y 0) (y 1)) _ ?_ y
    (cover0_3 _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
  all_goals exact slab_emb x f p _ _ _ rfl _

end Cert.Proof.Block

end
-- ==== Proof.Encoding.lean ====
/-
  THE ENCODING as a plain function of the positions: what both programs are shown to compute, over the extended reals.

  Row `n`, column `2 k` is `sin (freq k · x n)` and column `2 k + 1` is `cos (freq k · x n)` for `k < 127`, where
  `freq k = 2 ^ k · π`. The last two columns do not depend on `x`: 0 and `⊥`.
-/
module

public import Idealize.ShloMosaic.PureOps
public import Idealize.ShloMosaic.PureOps.Ideal
public import Idealize.ShloMosaic.Lib.IdealHost

@[expose] public section

noncomputable section

namespace Cert.Proof

open Idealize.ShloMosaic

/-- Frequency `k`: 2 to the `k`, times π as float32 writes it. -/
def freq (k : ℕ) : EReal :=
  Ideal.pow (Ideal.ofBits .f32 0x40000000#32) (FloatOps.sitofp (F := Ideal) .f32 (BitVec.ofNat 32 k)) * Ideal.ofBits .f32 0x40490FDB#32

/-- The sine at even columns, the cosine at odd ones. -/
def trig (j : ℕ) (a : EReal) : EReal := if j % 2 = 0 then Ideal.sin a else Ideal.cos a

/-- Column `j` of the row of a position `x`. -/
def enc (x : EReal) (j : ℕ) : EReal :=
  if j < 254 then trig j (freq (j / 2) * x) else if j = 254 then 0 else ⊥

theorem trig_zero_even {j : ℕ} (h : j % 2 = 0) : trig j 0 = 0 := by
  unfold trig
  rw [if_pos h]
  show ((Real.sin 0 : ℝ) : EReal) = 0
  rw [Real.sin_zero, EReal.coe_zero]

theorem trig_zero_odd {j : ℕ} (h : ¬ j % 2 = 0) : trig j 0 = 1 := by
  unfold trig
  rw [if_neg h]
  show ((Real.cos 0 : ℝ) : EReal) = 1
  rw [Real.cos_zero, EReal.coe_one]

/-- The NaN word denotes `⊥`. -/
theorem ofBits_nan : Ideal.ofBits .f32 0x7FC00000#32 = ⊥ := by
  simp [Ideal.ofBits, Ideal.ieee]

end Cert.Proof

end
-- ==== Proof.Table.Word.lean ====
/-
  THE TABLE, entry by entry: the 256 × 256 constant matrix that the kernel multiplies by.

  Row `k` of its upper half (a sine of frequency `k`) has its one nonzero entry in column `2 k`, row `128 + k` (a cosine
  of frequency `k`) in column `2 k + 1`. That entry is 1.0, but for the last frequency, 127, where it is a NaN. Multiplying
  by the table therefore interleaves the sines and the cosines.
-/
module

public import proofs.«01_k».proof.KernelIdeal
public import Idealize.ShloMosaic.Lib.Decide

@[expose] public section

namespace Cert.Proof.Table

/-- The column of row `k`'s nonzero entry. -/
abbrev column (k : ℕ) : ℕ := 2 * (k % 128) + k / 128

/-- The word in row `k` and column `j`. -/
abbrev word (k j : ℕ) : BitVec 32 :=
  if j = column k then (if k % 128 = 127 then 0x7FC00000#32 else 0x3F800000#32) else 0x00000000#32

/-- The printed table holds these words in the 16 rows from row `16 g` on. -/
abbrev RowsHold (g : ℕ) : Prop :=
  ∀ r : Fin 4096, Cert.KernelIdeal.lit0t (4096 * g + r.val) = word (16 * g + r.val / 256) (r.val % 256)

end Cert.Proof.Table
-- ==== Proof.Element.lean ====
/-
  ONE ELEMENT: the table has one entry in each column `j`, in row `j / 2` for even `j` and row `128 + j / 2` for odd `j`,
  so the block's sum of 256 products is the one wave there, times the entry. With the last frequency 0, the last two
  columns are `sin 0 * ⊥ = 0` and `cos 0 * ⊥ = ⊥`.
-/
module

public import proofs.«01_k».proof.Proof.Block
public import proofs.«01_k».proof.Proof.Encoding
public import proofs.«01_k».proof.Proof.Table.Word

@[expose] public section

noncomputable section

namespace Cert.Proof.Element

open Cert.KernelIdeal Cert.Proof.Slab Cert.Proof.Block Idealize.ShloMosaic

/-- The row of column `j`'s entry. -/
def row (j : Fin 256) : Fin 256 := ⟨if j.val % 2 = 0 then j.val / 2 else 128 + j.val / 2, by split_ifs <;> omega⟩

theorem row_mod (j : Fin 256) : (row j).val % 128 = j.val / 2 := by
  unfold row; dsimp only; split_ifs <;> omega

theorem column_iff (k j : Fin 256) : j.val = Table.column k ↔ k = row j := by
  rw [Fin.ext_iff]
  unfold row Table.column; dsimp only
  split_ifs <;> omega

/-- The wave in that row: sine for even `j`, cosine for odd `j`. -/
theorem wave_row (j : Fin 256) (a : EReal) : wave (row j) a = trig j a := by
  unfold wave trig row
  dsimp only
  split_ifs <;> first | rfl | omega

theorem elem_eq (x : Vec Ideal S32x128 .f32) (f : Vec Ideal S128x1 .f32) (p : Vec Ideal S256x256 .f32)
    (hf : ∀ k : Fin 128, f (ix2 k 0) = if k.val = 127 then (0 : EReal) else freq k)
    (hp : ∀ k j : Fin 256, p (ix2 k j)
      = if j.val = Table.column k then (if k.val % 128 = 127 then (⊥ : EReal) else (1 : EReal)) else (0 : EReal))
    (q : Fin 4096) (j : Fin 256) :
    elem x f p q j = enc (x (ix2 ⟨q.val / 128, by omega⟩ ⟨q.val % 128, Nat.mod_lt _ (by decide)⟩)) j := by
  unfold elem
  rw [Finset.sum_eq_single (row j)]
  · rw [hf, hp, if_pos ((column_iff _ _).mpr rfl), wave_row]
    dsimp only
    simp only [row_mod]
    unfold enc
    have hj := j.isLt
    by_cases h : j.val / 2 = 127
    · rw [if_pos h, if_pos h, if_neg (by omega), zero_mul]
      by_cases h' : j.val = 254
      · rw [if_pos h', trig_zero_even (by omega), zero_mul]
      · rw [if_neg h', trig_zero_odd (by omega), one_mul]
    · rw [if_neg h, if_neg h, if_pos (by omega), mul_one]
  · intro k _ hk
    rw [hp, if_neg (fun h => hk ((column_iff _ _).mp h)), mul_zero]
  · exact fun h => absurd (Finset.mem_univ _) h

end Cert.Proof.Element

end
-- ==== Proof.Table.Rows0.lean ====
/-
  Rows 0–63 of the table, decided entry by entry, 16 rows at a time.
-/
module

public import proofs.«01_k».proof.Proof.Table.Word

@[expose] public section

namespace Cert.Proof.Table

theorem rows0 : RowsHold 0 := by decide +kernel
theorem rows1 : RowsHold 1 := by decide +kernel
theorem rows2 : RowsHold 2 := by decide +kernel
theorem rows3 : RowsHold 3 := by decide +kernel

end Cert.Proof.Table
-- ==== Proof.Table.Rows1.lean ====
/-
  Rows 64–127 of the table, decided entry by entry, 16 rows at a time.
-/
module

public import proofs.«01_k».proof.Proof.Table.Rows0

@[expose] public section

namespace Cert.Proof.Table

theorem rows4 : RowsHold 4 := by decide +kernel
theorem rows5 : RowsHold 5 := by decide +kernel
theorem rows6 : RowsHold 6 := by decide +kernel
theorem rows7 : RowsHold 7 := by decide +kernel

end Cert.Proof.Table
-- ==== Proof.Table.Rows2.lean ====
/-
  Rows 128–191 of the table, decided entry by entry, 16 rows at a time.
-/
module

public import proofs.«01_k».proof.Proof.Table.Word

@[expose] public section

namespace Cert.Proof.Table

theorem rows8 : RowsHold 8 := by decide +kernel
theorem rows9 : RowsHold 9 := by decide +kernel
theorem rows10 : RowsHold 10 := by decide +kernel
theorem rows11 : RowsHold 11 := by decide +kernel

end Cert.Proof.Table
-- ==== Proof.Table.Rows3.lean ====
/-
  Rows 192–255 of the table, decided entry by entry, 16 rows at a time.
-/
module

public import proofs.«01_k».proof.Proof.Table.Rows2

@[expose] public section

namespace Cert.Proof.Table

theorem rows12 : RowsHold 12 := by decide +kernel
theorem rows13 : RowsHold 13 := by decide +kernel
theorem rows14 : RowsHold 14 := by decide +kernel
theorem rows15 : RowsHold 15 := by decide +kernel

end Cert.Proof.Table
-- ==== Proof.Table.lean ====
/-
  THE TABLE, whole: the sixteen pieces together say every word of the kernel's 256 × 256 constant.
-/
module

public import proofs.«01_k».proof.Proof.Table.Rows1
public import proofs.«01_k».proof.Proof.Table.Rows3
public import Mathlib.Tactic.IntervalCases

@[expose] public section

namespace Cert.Proof.Table

open Cert.KernelIdeal

/-- The table's entry in row `k` and column `j`. -/
theorem lit0_apply (i : Fin 65536) : lit0 i = word (i.val / 256) (i.val % 256) := by
  obtain ⟨i, hi⟩ := i
  show lit0t i = _
  have key : ∀ g, RowsHold g → i / 4096 = g → lit0t i = word (i / 256) (i % 256) := by
    intro g hg h
    have h' := hg ⟨i % 4096, Nat.mod_lt _ (by decide)⟩
    rw [show 4096 * g + i % 4096 = i by omega, show 16 * g + i % 4096 / 256 = i / 256 by omega,
      show i % 4096 % 256 = i % 256 by omega] at h'
    exact h'
  have hg : i / 4096 < 16 := by omega
  generalize hq : i / 4096 = g at hg
  refine key g ?_ hq
  interval_cases g
  exacts [rows0, rows1, rows2, rows3, rows4, rows5, rows6, rows7,
    rows8, rows9, rows10, rows11, rows12, rows13, rows14, rows15]

end Cert.Proof.Table

end
-- ==== Proof.Host.lean ====
/-
  BEFORE THE LAUNCH: what the host operations give the kernel. The positions come as a 128 × 128 array, row after row.
  The frequencies come as a column whose last entry, at 127, is set to 0. The table is a constant.
-/
module

public import proofs.«01_k».proof.Proof.Encoding
public import proofs.«01_k».proof.Proof.Table
public import proofs.«01_k».proof.Proof.Gen.KernelIdeal.Frame
public import Idealize.ShloMosaic.Lib.Pointwise
public import Idealize.ShloMosaic.Lib.Pipeline.Value

@[expose] public section

noncomputable section

namespace Cert.Proof.Host

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's argument: the 16384 positions. -/
abbrev positions : Vec Ideal S16384 .f32 := m ((c : Thread nD τ).loc main_arg0)

theorem V_positions :
    V m c main_v0 = (shapeCast S128x128 (positions m c) shapeCasts_S16384_S128x128 : Vec Ideal S128x128 .f32) := by
  show StableHlo.after hostOps0 _ (Proc.devRef .tc main_v0) = _
  after_results
  rfl

theorem V_table : V m c main_cst = (fun i => Ideal.ofBits .f32 (lit0 (S256x256.rowMajor i)) : Vec Ideal S256x256 .f32) := by
  show StableHlo.after hostOps0 _ (Proc.devRef .tc main_cst) = _
  after_results
  rfl

/-- The column of frequencies, before its last entry is set. -/
abbrev powers : Vec Ideal S128x1 .f32 :=
  shapeCast S128x1 (mulf (Host.powf (broadcastInDim S128 ![] bcast_S_S128 (constant (F := Ideal) S_ .f32 0x40000000#32))
    (sitofp .f32 (iotaInDim S128 32 0))) (broadcastInDim S128 ![] bcast_S_S128 (constant (F := Ideal) S_ .f32 0x40490FDB#32)))
    shapeCasts_S128_S128x1

/-- Where the last entry is: row 127, column 0. -/
abbrev lastRow : IVec S2 32 :=
  concatenate S2 0 [⟨S1, broadcastInDim S1 ![] bcast_S_S1 (constantI S_ 32 127#32)⟩,
    ⟨S1, broadcastInDim S1 ![] bcast_S_S1 (constantI S_ 32 0#32)⟩] concatenates_S1_S1_S2_d0

theorem V_frequencies :
    V m c main_v10 = (Host.scatter scatter_S128x1_S2_S__n_01_01_0 (fun _ b => b) powers lastRow
      (constant (F := Ideal) S_ .f32 0x00000000#32) : Vec Ideal S128x1 .f32) := by
  show StableHlo.after hostOps0 _ (Proc.devRef .tc main_v10) = _
  after_results
  rfl

/-- The one update lands there. -/
theorem lands (u : S_.Idx) : scatter_S128x1_S2_S__n_01_01_0.resultIdx? u lastRow = some (ix2 127 0) := by
  revert u
  decide +kernel

theorem powers_apply (k : Fin 128) : powers (ix2 k 0) = freq k := by
  pointwise [freq]

/-- The frequency in row `k`. -/
theorem frequencies_apply (k : Fin 128) : (V m c main_v10 : Vec Ideal S128x1 .f32) (ix2 k 0) = if k.val = 127 then 0 else freq k := by
  rw [V_frequencies]
  have e : (List.finRange S_.numel) = [⟨0, by decide⟩] := by decide
  unfold Host.scatter
  rw [e, List.foldl_cons, List.foldl_nil, lands]
  show (if (ix2 k 0 : S128x1.Idx) = ix2 127 0 then Ideal.ofBits .f32 0x00000000#32 else powers (ix2 k 0)) = _
  by_cases hk : k = 127
  · subst hk
    rw [if_pos rfl, if_pos (show (127 : Fin 128).val = 127 from rfl)]
    exact Ideal.ofBits_zero_f32
  · rw [if_neg (fun h => hk (congrFun h 0)), if_neg (fun h : k.val = 127 => hk (Fin.ext h)), powers_apply]

/-- Position `n` of the 128 × 128 array. -/
theorem positions_apply (a b : Fin 128) :
    (V m c main_v0 : Vec Ideal S128x128 .f32) (ix2 a b) = positions m c (ix1 ⟨128 * a.val + b.val, by omega⟩) := by
  rw [V_positions]
  refine shapeCast_apply _ _ _ _ ?_
  rw [Shape.rowMajor_val_one, Shape.rowMajor_val_two]
  show 128 * a.val + b.val = a.val * 128 + b.val
  omega

/-- The table as extended reals: 1 (`⊥` for the last frequency) where row `k` has its entry, 0 elsewhere. -/
theorem table_apply (k j : Fin 256) :
    (V m c main_cst : Vec Ideal S256x256 .f32) (ix2 k j)
      = if j.val = Table.column k then (if k.val % 128 = 127 then (⊥ : EReal) else (1 : EReal)) else (0 : EReal) := by
  rw [V_table]
  show Ideal.ofBits .f32 (lit0 (S256x256.rowMajor (ix2 k j))) = _
  have h : (S256x256.rowMajor (ix2 k j)).val = k.val * 256 + j.val := Shape.rowMajor_val_two _
  have hj := j.isLt
  refine (congrArg (Ideal.ofBits .f32) (Table.lit0_apply (S256x256.rowMajor (ix2 k j)))).trans ?_
  rw [h, show (k.val * 256 + j.val) / 256 = k.val by omega, show (k.val * 256 + j.val) % 256 = j.val by omega]
  unfold Table.word
  split_ifs
  · exact ofBits_nan
  · exact Ideal.ofBits_one_f32
  · exact Ideal.ofBits_zero_f32

end Cert.Proof.Host

end
-- ==== Proof.Array.lean ====
/-
  THE WHOLE ARRAY: grid point `t` takes rows `32 t` to `32 t + 31` of the 128 × 128 positions and leaves rows `4096 t` to
  `4096 t + 4095` of the result; the four blocks fill it, so the result's row `n` is the encoding of position `n`.
-/
module

public import proofs.«01_k».proof.Proof.Element
public import proofs.«01_k».proof.Proof.Host
public import proofs.«01_k».proof.Proof.Gen.KernelIdeal.Value

@[expose] public section

noncomputable section

namespace Cert.Proof.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- What the result array is shown to hold. -/
abbrev encoded : Vec Ideal S16384x256 .f32 := fun i => enc (Host.positions m c (ix1 (i 0))) (i 1).val

/-- Where the four windows' blocks start at grid point `t`. -/
theorem starts (t : Fin cfg0.N) :
    (win0_0.index t 0 * win0_0.size 0 = 32 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 4096 * t.val ∧ win0_3.index t 1 * win0_3.size 1 = 0) :=
  (by decide +kernel : ∀ t : Fin grid0.N,
    (win0_0.index t 0 * win0_0.size 0 = 32 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 4096 * t.val ∧ win0_3.index t 1 * win0_3.size 1 = 0)) t

theorem points : cfg0.N = 4 := by decide

/-- The block of positions at grid point `t`. -/
theorem block_positions (t : Fin cfg0.N) (a : Fin 32) (b : Fin 128) :
    (iblk m c 0 t : Vec Ideal S32x128 .f32) (ix2 a b)
      = Host.positions m c (ix1 ⟨128 * (32 * t.val + a.val) + b.val, by have := t.isLt; have := points; omega⟩) := by
  have ht : t.val < 4 := points ▸ t.isLt
  refine Eq.trans ?_ (Host.positions_apply m c ⟨32 * t.val + a.val, by omega⟩ b)
  show (V m c main_v0 : Vec Ideal S128x128 .f32) ((win0_0.rect t).emb (ix2 a b)) = _
  congr 1
  refine Shape.idx_ext₂ ?_ ?_
  · show win0_0.index t 0 * win0_0.size 0 + 1 * a.val = 32 * t.val + a.val
    rw [(starts t).1.1, one_mul]
  · show win0_0.index t 1 * win0_0.size 1 + 1 * b.val = b.val
    rw [(starts t).1.2, one_mul, zero_add]

/-- The frequencies at grid point `t`. -/
theorem block_frequencies (t : Fin cfg0.N) (k : Fin 128) :
    (iblk m c 1 t : Vec Ideal S128x1 .f32) (ix2 k 0) = if k.val = 127 then (0 : EReal) else freq k := by
  refine Eq.trans ?_ (Host.frequencies_apply m c k)
  show (V m c main_v10 : Vec Ideal S128x1 .f32) ((win0_1.rect t).emb (ix2 k 0)) = _
  congr 1
  refine Shape.idx_ext₂ ?_ ?_
  · show win0_1.index t 0 * win0_1.size 0 + 1 * k.val = k.val
    rw [(starts t).2.1.1, one_mul, zero_add]
  · show win0_1.index t 1 * win0_1.size 1 + 1 * 0 = 0
    rw [(starts t).2.1.2]

/-- The table at grid point `t`. -/
theorem block_table (t : Fin cfg0.N) (k j : Fin 256) :
    (iblk m c 2 t : Vec Ideal S256x256 .f32) (ix2 k j)
      = if j.val = Table.column k then (if k.val % 128 = 127 then (⊥ : EReal) else (1 : EReal)) else (0 : EReal) := by
  refine Eq.trans ?_ (Host.table_apply m c k j)
  show (V m c main_cst : Vec Ideal S256x256 .f32) ((win0_2.rect t).emb (ix2 k j)) = _
  congr 1
  refine Shape.idx_ext₂ ?_ ?_
  · show win0_2.index t 0 * win0_2.size 0 + 1 * k.val = k.val
    rw [(starts t).2.2.1.1, one_mul, zero_add]
  · show win0_2.index t 1 * win0_2.size 1 + 1 * j.val = j.val
    rw [(starts t).2.2.1.2, one_mul, zero_add]

/-- The block grid point `t` leaves is the encoding of its rows. -/
theorem block_out (t : Fin cfg0.N) (y : S4096x256.Idx) :
    out0_3 (F := Ideal) (iblk m c 0 t) (iblk m c 1 t) (iblk m c 2 t) y
      = enc (Host.positions m c (ix1 ⟨4096 * t.val + (y 0 : ℕ), by
          have := t.isLt; have := points; have : (y 0 : ℕ) < 4096 := (y 0).isLt; omega⟩)) (y 1 : ℕ) := by
  refine (Block.out_apply _ _ _ y).trans ?_
  refine (Element.elem_eq _ _ _ (block_frequencies m c t) (block_table m c t) _ _).trans ?_
  refine congrArg (enc · _) ((block_positions m c t _ _).trans ?_)
  refine congrArg (fun n => Host.positions m c (ix1 n)) (Fin.ext ?_)
  show 128 * (32 * t.val + (y 0 : ℕ) / 128) + (y 0 : ℕ) % 128 = 4096 * t.val + (y 0 : ℕ)
  omega

/-- Row `y` of that block is row `4096 t + y` of the array. -/
theorem emb_block (t : Fin cfg0.N) (y : S4096x256.Idx) :
    encoded m c ((win0_3.rect t).emb y)
      = enc (Host.positions m c (ix1 ⟨4096 * t.val + (y 0 : ℕ), by
          have := t.isLt; have := points; have : (y 0 : ℕ) < 4096 := (y 0).isLt; omega⟩)) (y 1 : ℕ) := by
  have h1 : ((win0_3.rect t).emb y 1 : ℕ) = (y 1 : ℕ) := by
    show win0_3.index t 1 * win0_3.size 1 + 1 * (y 1 : ℕ) = _
    rw [(starts t).2.2.2.2, one_mul, zero_add]
  refine (congrArg (enc _) h1).trans (congrArg (fun n => enc (Host.positions m c (ix1 n)) _) (Fin.ext ?_))
  show win0_3.index t 0 * win0_3.size 0 + 1 * (y 0 : ℕ) = _
  rw [(starts t).2.2.2.1, one_mul]

/-- What grid point `t` writes back is its rows of the encoding. -/
theorem flushed_eq (t : Fin cfg0.N) :
    (dats m 0 c).flushed 3 t = ((cfg0.win 3).blk t).view.read (Elt Ideal) (encoded m c) :=
  (Cert.KernelIdeal.Value.flushed3 m c t).trans
    (funext fun y => (block_out m c t y).trans (emb_block m c t y).symm)

theorem mem_blk (t : Fin cfg0.N) (i : S16384x256.Idx) :
    i ∈ ((cfg0.win 3).blk t).view.set ↔ 4096 * t.val ≤ (i 0 : ℕ) ∧ (i 0 : ℕ) < 4096 * t.val + 4096 := by
  show i ∈ ((View.whole main_v11).slice (win0_3.rect t)).set ↔ _
  rw [View.set_slice_whole, Rect.mem_set_unit]
  have h1 : (i 1 : ℕ) < 256 := (i 1).isLt
  have e := (starts t).2.2.2
  refine ⟨fun h => ?_, fun h a => ?_⟩
  · have h' : win0_3.index t 0 * win0_3.size 0 ≤ (i 0 : ℕ) ∧ (i 0 : ℕ) < win0_3.index t 0 * win0_3.size 0 + 4096 := h 0
    rwa [e.1] at h'
  · match a with
    | ⟨0, _⟩ =>
      show win0_3.index t 0 * win0_3.size 0 ≤ (i 0 : ℕ) ∧ (i 0 : ℕ) < win0_3.index t 0 * win0_3.size 0 + 4096
      rw [e.1]; exact h
    | ⟨1, _⟩ =>
      show win0_3.index t 1 * win0_3.size 1 ≤ (i 1 : ℕ) ∧ (i 1 : ℕ) < win0_3.index t 1 * win0_3.size 1 + 256
      rw [e.2]; omega

theorem cover (i : S16384x256.Idx) : ∃ t : Fin cfg0.N, (cfg0.win 3).flush t = true ∧ i ∈ ((cfg0.win 3).blk t).view.set := by
  have h0 : (i 0 : ℕ) < 16384 := (i 0).isLt
  refine ⟨⟨(i 0 : ℕ) / 4096, by have := points; omega⟩, flush0_3 _, ?_⟩
  rw [mem_blk]
  dsimp only
  omega

/-- The array the kernel leaves. -/
theorem final_eq : (dats m 0 c).arrAt 3 cfg0.N = encoded m c :=
  (dats m 0 c).arrAt_eq_of_cover 3 (encoded m c) (fun t _ => flushed_eq m c t) cover

/-- The kernel's run, with its result named. -/
theorem run (ρ : Dev nD → PrngReg) : θ_run defs (onTc (τ := τ) (main (F := Ideal))) ⟨m, fun _ => 0, ρ⟩ fun r => ∀ c : Dev nD,
      r.2.mem ((c : Thread nD τ).loc main_v11) = encoded m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Cert.KernelIdeal.Value.run_blocks m ρ)

end Cert.Proof.Array

end
-- ==== Proof.Reference.lean ====
/-
  THE REFERENCE: its result at row `n` and column `j`. Columns 0 to 253 are the interleaved sines and cosines, columns
  254 and 255 are `0 * ⊥` and `1 * ⊥`.
-/
module

public import proofs.«01_k».proof.Proof.Encoding
public import proofs.«01_k».proof.Proof.Gen.ReferenceIdeal.Run
public import Idealize.ShloMosaic.Lib.Pointwise
public import Idealize.ShloMosaic.Lib.Pipeline.Value

@[expose] public section

noncomputable section

namespace Cert.Proof.Reference

open Cert.ReferenceIdeal Cert.ReferenceIdeal.Gen Idealize.ShloMosaic

/-- The angles: frequency `k` times position `n`. -/
abbrev angles (x : Vec Ideal S16384 .f32) : FVec Ideal S16384x128 .f32 :=
  mulf (broadcastInDim S16384x128 ![0, 1] bcast_S1x128_S16384x128_0_1 (broadcastInDim S1x128 ![1] bcast_S128_S1x128_1
      (mulf (Host.powf (broadcastInDim S128 ![] bcast_S_S128 (constant (F := Ideal) S_ .f32 0x40000000#32))
        (sitofp .f32 (iotaInDim S128 32 0))) (broadcastInDim S128 ![] bcast_S_S128 (constant (F := Ideal) S_ .f32 0x40490FDB#32)))))
    (broadcastInDim S16384x128 ![0, 1] bcast_S16384x1_S16384x128_0_1 (broadcastInDim S16384x1 ![0] bcast_S16384_S16384x1_0 x))

/-- The sines and cosines side by side in pairs, laid out as 256 columns. -/
abbrev pairs (x : Vec Ideal S16384 .f32) : Vec Ideal S16384x256 .f32 :=
  shapeCast S16384x256 (concatenate S16384x128x2 2
    [⟨S16384x128x1, broadcastInDim S16384x128x1 ![0, 1] bcast_S16384x128_S16384x128x1_0_1 (Host.sin (angles x) : FVec Ideal S16384x128 .f32)⟩,
     ⟨S16384x128x1, broadcastInDim S16384x128x1 ![0, 1] bcast_S16384x128_S16384x128x1_0_1 (Host.cos (angles x) : FVec Ideal S16384x128 .f32)⟩]
    concatenates_S16384x128x1_S16384x128x1_S16384x128x2_d2) shapeCasts_S16384x128x2_S16384x256

/-- The last two columns. -/
abbrev last : Vec Ideal S16384x2 .f32 :=
  broadcastInDim S16384x2 ![1] bcast_S2_S16384x2_1 (mulf (broadcastInDim S2 ![] bcast_S_S2 (constant (F := Ideal) S_ .f32 0x7FC00000#32))
    (fun i => FloatOps.ofBits .f32 (lit0 (S2.rowMajor i))))

/-- The reference's result. -/
abbrev result (x : Vec Ideal S16384 .f32) : Vec Ideal S16384x256 .f32 :=
  concatenate S16384x256 1 [⟨S16384x254, extractStridedSlice S16384x254 ![0, 0] (pairs x) slices_S16384x256_S16384x254_0_0⟩,
    ⟨S16384x2, last⟩] concatenates_S16384x254_S16384x2_S16384x256_d1

theorem angles_apply (x : Vec Ideal S16384 .f32) (n : Fin 16384) (k : Fin 128) :
    angles x (ix2 n k) = freq k * x (ix1 n) := by
  pointwise [freq]

theorem pairs_apply (x : Vec Ideal S16384 .f32) (n : Fin 16384) (j : Fin 256) :
    pairs x (ix2 n j) = trig j (freq (j.val / 2) * x (ix1 n)) := by
  have hj := j.isLt
  have hk : j.val / 2 < 128 := by omega
  show shapeCast S16384x256 _ _ _ = _
  refine (shapeCast_apply _ _ _ (ix3 n ⟨j.val / 2, hk⟩ ⟨j.val % 2, Nat.mod_lt _ (by decide)⟩) ?_).trans ?_
  · rw [Shape.rowMajor_val_two, Shape.rowMajor_val_three]
    show (n.val * 128 + j.val / 2) * 2 + j.val % 2 = n.val * 256 + j.val
    omega
  unfold trig
  by_cases h : j.val % 2 = 0
  · rw [if_pos h]
    refine (concatenate_pair_apply_left (t := S16384x128x2) (s₁ := S16384x128x1) (s₂ := S16384x128x1) 2 _ _ _ _ rfl
      (ix3 n ⟨j.val / 2, hk⟩ 0)
      (by intro b; match b with | ⟨0, _⟩ => rfl | ⟨1, _⟩ => rfl | ⟨2, _⟩ => exact h.symm)).trans ?_
    refine (broadcastInDim_apply _ _ _ _ (ix2 n ⟨j.val / 2, hk⟩) (by intro b; fin_cases b <;> rfl)).trans ?_
    exact congrArg Ideal.sin (angles_apply x n _)
  · rw [if_neg h]
    refine (concatenate_pair_apply_right (t := S16384x128x2) (s₁ := S16384x128x1) (s₂ := S16384x128x1) 2 _ _ _ _ rfl rfl
      (ix3 n ⟨j.val / 2, hk⟩ 0)
      (by intro b hb; match b with | ⟨0, _⟩ => rfl | ⟨1, _⟩ => rfl | ⟨2, _⟩ => exact absurd rfl hb)
      (by show 0 + 1 = j.val % 2; omega)).trans ?_
    refine (broadcastInDim_apply _ _ _ _ (ix2 n ⟨j.val / 2, hk⟩) (by intro b; fin_cases b <;> rfl)).trans ?_
    exact congrArg Ideal.cos (angles_apply x n _)

/-- On the columns below 254 the pairs are the encoding. -/
theorem pairs_eq_enc (x : Vec Ideal S16384 .f32) (n : Fin 16384) (j : Fin 256) (h : j.val < 254) :
    pairs x (ix2 n j) = enc (x (ix1 n)) j := by
  unfold enc
  rw [if_pos h, pairs_apply]

theorem last_apply (n : Fin 16384) (j : Fin 2) : last (ix2 n j) = if j.val = 0 then (0 : EReal) else (⊥ : EReal) := by
  refine (broadcastInDim_apply _ _ _ _ (ix1 j) (by intro b; fin_cases b; rfl)).trans ?_
  show Ideal.ofBits .f32 0x7FC00000#32 * Ideal.ofBits .f32 (lit0 (S2.rowMajor (ix1 j))) = _
  rw [ofBits_nan]
  fin_cases j
  · refine (congrArg (⊥ * ·) (Ideal.ofBits_zero_f32 : Ideal.ofBits .f32 0x00000000#32 = 0)).trans ?_
    exact mul_zero _
  · refine (congrArg (⊥ * ·) (Ideal.ofBits_one_f32 : Ideal.ofBits .f32 0x3F800000#32 = 1)).trans ?_
    exact mul_one _

theorem result_apply (x : Vec Ideal S16384 .f32) (n : Fin 16384) (j : Fin 256) : result x (ix2 n j) = enc (x (ix1 n)) j := by
  have hj := j.isLt
  by_cases h : j.val < 254
  · refine (concatenate_pair_apply_left (t := S16384x256) (s₁ := S16384x254) (s₂ := S16384x2) 1 _ _ _ (ix2 n j) rfl
      (ix2 n ⟨j.val, h⟩) (by intro b; match b with | ⟨0, _⟩ => rfl | ⟨1, _⟩ => rfl)).trans ?_
    refine (extractStridedSlice_apply _ _ _ _ (ix2 n j) (by intro b; match b with | ⟨0, _⟩ => exact (Nat.zero_add _).symm | ⟨1, _⟩ => exact (Nat.zero_add _).symm)).trans ?_
    exact pairs_eq_enc x n j h
  · unfold enc
    rw [if_neg h]
    refine (concatenate_pair_apply_right (t := S16384x256) (s₁ := S16384x254) (s₂ := S16384x2) 1 _ _ _ (ix2 n j) rfl rfl
      (ix2 n ⟨j.val - 254, by omega⟩)
      (by intro b hb; match b with | ⟨0, _⟩ => rfl | ⟨1, _⟩ => exact absurd rfl hb)
      (by show j.val - 254 + 254 = j.val; omega)).trans ?_
    refine (last_apply n _).trans (if_congr ?_ rfl rfl)
    show j.val - 254 = 0 ↔ j.val = 254
    omega

end Cert.Proof.Reference

end
-- ==== Proof.lean ====
/-
  THE CERTIFICATE: the kernel and the reference leave the same array, the encoding `enc` of every position (Encoding.lean):
  the kernel by Array.lean, the reference by Reference.lean. On the columns below 254 that is also what the bands leave,
  which are reference.py word for word. The frames come from the runs.
-/
module

public import proofs.«01_k».proof.Defs
public import proofs.«01_k».proof.Proof.Array
public import proofs.«01_k».proof.Proof.Reference
public import proofs.«01_k».proof.Proof.Gen.Kernel.Frame
public import proofs.«01_k».proof.Proof.Gen.BandsIdeal.Run
public import proofs.«01_k».proof.Proof.Gen.On_finite
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

/-- The reference keeps its arguments, and it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it is with the bands. -/
theorem frame_bandsIdeal : Cert.quiescent_BandsIdeal := fun m ρ _ =>
  (θ_run Cert.BandsIdeal.defs _ _).mono (fun r h => ⟨fun c => (h c).2, sem_eq_zero_of_no_sems (by decide) r.2⟩)
    (Cert.BandsIdeal.Value.run (F := Ideal) m ρ)

/-- The reference's result is the encoding the kernel leaves, where the arguments agree. -/
theorem result_eq (x : Vec Ideal Cert.KernelIdeal.S16384 .f32) :
    Reference.result x = (fun i => enc (x (ix1 (i 0))) (i 1).val : Vec Ideal Cert.KernelIdeal.S16384x256 .f32) :=
  funext fun i => (congrArg (Reference.result x) (eq_ix2 i)).trans (Reference.result_apply x (i 0) (i 1))

theorem algebraic : Cert.algebraic_KernelIdeal_ReferenceIdeal := by
  intro m ρ m' ρ' _ hagree
  refine ⟨fun c => Array.encoded m c, Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1]
  exact result_eq (Host.positions m c)

/-- Where the mask is set, the column is below 254. -/
theorem finite_lt (x : FVec Ideal Cert.On_finite.S16384 .f32) (y : FVec Ideal Cert.On_finite.S100000x256 .f32)
    (i : Cert.On_finite.S16384x256.Idx) (h : Cert.On_finite.fn x y i = 1#1) : (i 1).val < 254 := by
  have key : ∀ j : Fin 256, IntOp.cmpi .slt (BitVec.ofNat 32 j.val) 254#32 = 1#1 → j.val < 254 := by decide
  exact key (i 1) h

theorem algebraic_bands : Cert.algebraic_KernelIdeal_BandsIdeal_on_finite := by
  intro m ρ m' ρ' _ hagree
  refine ⟨fun c => Array.encoded m c, ?_, ?_⟩
  · exact (θ_run Cert.KernelIdeal.defs _ _).mono (fun _ h c => ⟨fun i _ => congrFun (h c).1 i, (h c).2⟩) (Array.run m ρ)
  refine (θ_run Cert.BandsIdeal.defs _ _).mono (fun _ h c => ⟨fun i hi => (congrFun (h c).1 i).trans ?_, (h c).2⟩)
    (Cert.BandsIdeal.Value.run (F := Ideal) m' ρ')
  rw [(hagree c).1]
  exact (congrArg (Reference.pairs (Host.positions m c)) (eq_ix2 i)).trans
    (Reference.pairs_eq_enc (Host.positions m c) (i 0) (i 1) (finite_lt _ _ i hi))

theorem claim : Cert.Claim :=
  ⟨Cert.Kernel.Gen.facts, Cert.KernelIdeal.Gen.facts, Cert.ReferenceIdeal.Gen.facts, Cert.BandsIdeal.Gen.facts,
    Cert.On_finite.Gen.facts, frame_kernel, frame_kernelIdeal, frame_referenceIdeal, frame_bandsIdeal, trivial, algebraic,
    algebraic_bands⟩

end Cert.Proof

end
